-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v2_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S65536x512 : Shape := ⟨2, ![65536, 512]⟩
abbrev S1x2 : Shape := ⟨2, ![1, 2]⟩
abbrev S512x2 : Shape := ⟨2, ![512, 2]⟩
abbrev S1 : Shape := ⟨1, ![1]⟩
abbrev S_ : Shape := ⟨0, ![]⟩

class Facts : Prop where
  bcast_S_S65536x512 : S_.BroadcastsInDim S65536x512 (![] : Fin 0 → Fin S65536x512.rank)
  bcast_S_S512x2 : S_.BroadcastsInDim S512x2 (![] : Fin 0 → Fin S512x2.rank)
  bcast_S_S1x2 : S_.BroadcastsInDim S1x2 (![] : Fin 0 → Fin S1x2.rank)
  bcast_S_S1 : S_.BroadcastsInDim S1 (![] : Fin 0 → Fin S1.rank)

variable [Facts]

def fn {F : FTy → Type} [FloatOps F] (main_arg0 : FVec F S65536x512 .f32) (main_arg1 : FVec F S1x2 .f32) (main_arg2 : FVec F S512x2 .f32) (main_arg3 : FVec F S1x2 .f32) (main_arg4 : FVec F S1 .f32) (main_arg5 : IVec S_ 32) (main_arg6 : IVec S_ 32) : IVec S65536x512 1 × IVec S512x2 1 × IVec S1x2 1 × IVec S1 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_v3 : FVec F S512x2 .f32 := Host.absf main_arg2
  let main_cst_0 : FVec F S_ .f32 := constant S_ .f32 0x7F800000#32
  let main_v4 : FVec F S512x2 .f32 := broadcastInDim S512x2 ![] bcast_S_S512x2 main_cst_0
  let main_v5 : IVec S512x2 1 := cmpf .olt main_v3 main_v4
  let main_v6 : FVec F S1x2 .f32 := Host.absf main_arg3
  let main_cst_1 : FVec F S_ .f32 := constant S_ .f32 0x7F800000#32
  let main_v7 : FVec F S1x2 .f32 := broadcastInDim S1x2 ![] bcast_S_S1x2 main_cst_1
  let main_v8 : IVec S1x2 1 := cmpf .olt main_v6 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  (main_v2, main_v5, main_v8, main_v11)
-- ==== Kernel.lean ====
abbrev S65536x512 : Shape := ⟨2, ![65536, 512]⟩
abbrev S1x2 : Shape := ⟨2, ![1, 2]⟩
abbrev S512x2 : Shape := ⟨2, ![512, 2]⟩
abbrev S1 : Shape := ⟨1, ![1]⟩
abbrev S_ : Shape := ⟨0, ![]⟩
abbrev S2x512 : Shape := ⟨2, ![2, 512]⟩
abbrev S2x65536 : Shape := ⟨2, ![2, 65536]⟩
abbrev S1x65536 : Shape := ⟨2, ![1, 65536]⟩
abbrev S16x1x512 : Shape := ⟨3, ![16, 1, 512]⟩
abbrev S4096x512 : Shape := ⟨2, ![4096, 512]⟩
abbrev S2x4096 : Shape := ⟨2, ![2, 4096]⟩
abbrev S1x4096 : Shape := ⟨2, ![1, 4096]⟩
abbrev S1x1x512 : Shape := ⟨3, ![1, 1, 512]⟩
abbrev S4096 : Shape := ⟨1, ![4096]⟩
abbrev S1x512 : Shape := ⟨2, ![1, 512]⟩
abbrev S1x1 : Shape := ⟨2, ![1, 1]⟩
abbrev S65536x2 : Shape := ⟨2, ![65536, 2]⟩

abbrev nBuf : Space → Nat
  | .hbm => 16
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S1x2, .f32⟩
  | .hbm, ⟨2, _⟩ => ⟨S512x2, .f32⟩
  | .hbm, ⟨3, _⟩ => ⟨S1x2, .f32⟩
  | .hbm, ⟨4, _⟩ => ⟨S1, .f32⟩
  | .hbm, ⟨5, _⟩ => ⟨S_, .i32⟩
  | .hbm, ⟨6, _⟩ => ⟨S_, .i32⟩
  | .hbm, ⟨7, _⟩ => ⟨S2x512, .f32⟩
  | .hbm, ⟨8, _⟩ => ⟨S2x65536, .f32⟩
  | .hbm, ⟨9, _⟩ => ⟨S1x65536, .f32⟩
  | .hbm, ⟨10, _⟩ => ⟨S16x1x512, .f32⟩
  | .hbm, ⟨11, _⟩ => ⟨S1x512, .f32⟩
  | .hbm, ⟨12, _⟩ => ⟨S1x2, .f32⟩
  | .hbm, ⟨13, _⟩ => ⟨S1x1, .i32⟩
  | .hbm, ⟨14, _⟩ => ⟨S1, .i32⟩
  | .hbm, ⟨15, _⟩ => ⟨S65536x2, .f32⟩
  | .local _ .vmem, ⟨0, _⟩ => ⟨S4096x512, .f32⟩
  | .local _ .vmem, ⟨1, _⟩ => ⟨S4096x512, .f32⟩
  | .local _ .vmem, ⟨2, _⟩ => ⟨S2x512, .f32⟩
  | .local _ .vmem, ⟨3, _⟩ => ⟨S2x4096, .f32⟩
  | .local _ .vmem, ⟨4, _⟩ => ⟨S2x4096, .f32⟩
  | .local _ .vmem, ⟨5, _⟩ => ⟨S1x4096, .f32⟩
  | .local _ .vmem, ⟨6, _⟩ => ⟨S1x4096, .f32⟩
  | .local _ .vmem, ⟨7, _⟩ => ⟨S1x1x512, .f32⟩
  | .local _ .vmem, ⟨8, _⟩ => ⟨S1x1x512, .f32⟩
  | .local _ .vmem, ⟨9, _⟩ => ⟨S16x1x512, .f32⟩
  | .local _ .vmem, ⟨10, _⟩ => ⟨S512x2, .f32⟩
  | .local _ .vmem, ⟨11, _⟩ => ⟨S1x512, .f32⟩
  | .local _ .vmem, ⟨12, _⟩ => ⟨S1x2, .f32⟩
  | .local _ .vmem, ⟨13, _⟩ => ⟨S1x1, .i32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S16x1x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S65536x512 : Shape := ⟨2, ![65536, 512]⟩
abbrev S1x2 : Shape := ⟨2, ![1, 2]⟩
abbrev S512x2 : Shape := ⟨2, ![512, 2]⟩
abbrev S1 : Shape := ⟨1, ![1]⟩
abbrev S_ : Shape := ⟨0, ![]⟩
abbrev S65536x2 : Shape := ⟨2, ![65536, 2]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S1x1x1x512 : Shape := ⟨4, ![1, 1, 1, 512]⟩
abbrev S2x1x1x512 : Shape := ⟨4, ![2, 1, 1, 512]⟩
abbrev S2x512 : Shape := ⟨2, ![2, 512]⟩
abbrev S2x1 : Shape := ⟨2, ![2, 1]⟩
abbrev S1x1 : Shape := ⟨2, ![1, 1]⟩
abbrev S1x65536 : Shape := ⟨2, ![1, 65536]⟩

abbrev nBuf : Space → Nat
  | .hbm => 91
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1x2, .f32⟩
  | .hbm, ⟨2, _⟩ => ⟨S512x2, .f32⟩
  | .hbm, ⟨3, _⟩ => ⟨S1x2, .f32⟩
  | .hbm, ⟨4, _⟩ => ⟨S1, .f32⟩
  | .hbm, ⟨5, _⟩ => ⟨S_, .i32⟩
  | .hbm, ⟨6, _⟩ => ⟨S_, .i32⟩
  | .hbm, ⟨7, _⟩ => ⟨S65536x2, .f32⟩
  | .hbm, ⟨8, _⟩ => ⟨S_, .f32⟩
  | .hbm, ⟨9, _⟩ => ⟨S65536, .f32⟩
  | .hbm, ⟨10, _⟩ => ⟨S_, .f32⟩
  | .hbm, ⟨11, _⟩ => ⟨S65536, .f32⟩
  | .hbm, ⟨12, _⟩ => ⟨S65536, .f32⟩
  | .hbm, ⟨13, _⟩ => ⟨S65536x1, .f32⟩
  | .hbm, ⟨14, _⟩ => ⟨S65536x2, .f32⟩
  | .hbm, ⟨15, _⟩ => ⟨S65536x2, .f32⟩
  | .hbm, ⟨16, _⟩ => ⟨S65536x2, .f32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S65536x2, .f32⟩
  | .hbm, ⟨21, _⟩ => ⟨S65536x2, .f32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x1x1x512, .f32⟩
  | .hbm, ⟨29, _⟩ => ⟨S2x1x1x512, .f32⟩
  | .hbm, ⟨30, _⟩ => ⟨S2x512, .f32⟩
  | .hbm, ⟨31, _⟩ => ⟨S512x2, .f32⟩
  | .hbm, ⟨32, _⟩ => ⟨S65536x2, .f32⟩
  | .hbm, ⟨33, _⟩ => ⟨S_, .f32⟩
  | .hbm, ⟨34, _⟩ => ⟨S65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S65536x1, .f32⟩
  | .hbm, ⟨39, _⟩ => ⟨S65536x2, .f32⟩
  | .hbm, ⟨40, _⟩ => ⟨S65536x2, .f32⟩
  | .hbm, ⟨41, _⟩ => ⟨S65536x2, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S65536x2, .f32⟩
  | .hbm, ⟨46, _⟩ => ⟨S65536x2, .f32⟩
  | .hbm, ⟨47, _⟩ => ⟨S2x1, .f32⟩
  | .hbm, ⟨48, _⟩ => ⟨S65536x1, .f32⟩
  | .hbm, ⟨49, _⟩ => ⟨S1x1, .f32⟩
  | .hbm, ⟨50, _⟩ => ⟨S65536x1, .f32⟩
  | .hbm, ⟨51, _⟩ => ⟨S65536x1, .f32⟩
  | .hbm, ⟨52, _⟩ => ⟨S1x65536, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S1x1, .f32⟩
  | .hbm, ⟨59, _⟩ => ⟨S1x65536, .f32⟩
  | .hbm, ⟨60, _⟩ => ⟨S1x65536, .f32⟩
  | .hbm, ⟨61, _⟩ => ⟨S1x65536, .f32⟩
  | .hbm, ⟨62, _⟩ => ⟨S_, .f32⟩
  | .hbm, ⟨63, _⟩ => ⟨S1, .f32⟩
  | .hbm, ⟨64, _⟩ => ⟨S1x1, .f32⟩
  | .hbm, ⟨65, _⟩ => ⟨S1x65536, .f32⟩
  | .hbm, ⟨66, _⟩ => ⟨S1x65536, .f32⟩
  | .hbm, ⟨67, _⟩ => ⟨S1x512, .f32⟩
  | .hbm, ⟨68, _⟩ => ⟨S1x2, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S1, .f32⟩
  | .hbm, ⟨74, _⟩ => ⟨S1x1, .f32⟩
  | .hbm, ⟨75, _⟩ => ⟨S1x2, .f32⟩
  | .hbm, ⟨76, _⟩ => ⟨S1x2, .f32⟩
  | .hbm, ⟨77, _⟩ => ⟨S1x2, .f32⟩
  | .hbm, ⟨78, _⟩ => ⟨S_, .f32⟩
  | .hbm, ⟨79, _⟩ => ⟨S1, .f32⟩
  | .hbm, ⟨80, _⟩ => ⟨S1x1, .f32⟩
  | .hbm, ⟨81, _⟩ => ⟨S1x1, .f32⟩
  | .hbm, ⟨82, _⟩ => ⟨S1x2, .f32⟩
  | .hbm, ⟨83, _⟩ => ⟨S1x2, .f32⟩
  | .hbm, ⟨84, _⟩ => ⟨S1x2, .i32⟩
  | .hbm, ⟨85, _⟩ => ⟨S_, .f32⟩
  | .hbm, ⟨86, _⟩ => ⟨S_, .i32⟩
  | .hbm, ⟨87, _⟩ => ⟨S1, .f32⟩
  | .hbm, ⟨88, _⟩ => ⟨S1, .i32⟩
  | .hbm, ⟨89, _⟩ => ⟨S_, .i32⟩
  | .hbm, ⟨90, _⟩ => ⟨S1, .i32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_call0_cst_0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_cst_1 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_v51 : Ref sig .tc := ⟨.hbm, 83, rfl⟩
abbrev main_call1_v0 : Ref sig .tc := ⟨.hbm, 84, rfl⟩
abbrev main_call1_cst : Ref sig .tc := ⟨.hbm, 85, rfl⟩
abbrev main_call1_c : Ref sig .tc := ⟨.hbm, 86, rfl⟩
abbrev main_call1_v1_0 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩

abbrev nD : Nat := 1
abbrev τ : Topo := Topo.v7x

variable {F : FTy → Type} [FloatOps F]
-- ==== Proof.Maths.lean ====
/- The extended reals the two programs compute in: the constants they spell in bits, sums of real values, the
   softmax of a family and of an even one, and the logarithm of a two-entry softmax in its two spellings. -/
module

public import Idealize.ShloMosaic.PureOps.Ideal

@[expose] public section

noncomputable section

open Idealize.ShloMosaic

namespace Cert.Maths

theorem lowest : Ideal.ofBits .f32 0xFF800000#32 = (⊥ : EReal) := by
  simp [Ideal.ofBits, Ideal.ieee]

theorem highest : Ideal.ofBits .f32 0x7F800000#32 = (⊤ : EReal) := by
  simp [Ideal.ofBits, Ideal.ieee]

theorem rows : Ideal.ofBits .f32 0x47800000#32 = ((65536 : ℝ) : EReal) := by
  simp [Ideal.ofBits, Ideal.ieee, -EReal.coe_mul]; norm_num

theorem share : Ideal.ofBits .f32 0x37800000#32 = ((1 / 65536 : ℝ) : EReal) := by
  simp [Ideal.ofBits, Ideal.ieee, -EReal.coe_mul]; norm_num

/-- A finite sum of real values is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A value whose magnitude is below the top is real. -/
theorem real_of_abs_lt {x : EReal} (h : max x (-x) < ⊤) : ∃ r : ℝ, x = (r : EReal) := by
  induction x using EReal.rec with
  | bot => simp at h
  | top => simp at h
  | coe r => exact ⟨r, rfl⟩

/-- The largest value of a family, the bottom where it is empty. -/
def peak {n : ℕ} (f : Fin n → EReal) : EReal := Finset.fold max ⊥ f Finset.univ

/-- One entry of the softmax of a family. -/
def softmax {n : ℕ} (f : Fin n → EReal) (k : Fin n) : EReal :=
  Ideal.div (Ideal.exp (f k - peak f)) (∑ j, Ideal.exp (f j - peak f))

theorem peak_even {n : ℕ} (hn : 0 < n) (c : EReal) : peak (fun _ : Fin n => c) = c := by
  have : Nonempty (Fin n) := ⟨⟨0, hn⟩⟩
  exact Finset.sup_const Finset.univ_nonempty c

theorem peak_two (f : Fin 2 → EReal) : peak f = max (f 0) (f 1) := by
  have : (Finset.univ : Finset (Fin 2)) = {0, 1} := by decide
  rw [peak, this, Finset.fold_insert (by decide), Finset.fold_singleton]; simp

/-- The softmax of `n` equal real values spreads evenly. -/
theorem softmax_even {n : ℕ} (hn : 0 < n) (c : ℝ) (k : Fin n) :
    softmax (fun _ : Fin n => (c : EReal)) k = ((1 / n : ℝ) : EReal) := by
  have h0 : ((c : EReal) - (c : EReal)) = ((0 : ℝ) : EReal) := by rw [← EReal.coe_sub, sub_self]
  have hn' : (n : ℝ) ≠ 0 := by exact_mod_cast hn.ne'
  simp only [softmax, peak_even hn, h0, Ideal.exp_coe, Real.exp_zero]
  rw [coe_sum, Finset.sum_const, Finset.card_univ, Fintype.card_fin, nsmul_eq_mul, mul_one, Ideal.div_coe hn',
    ← EReal.coe_mul, one_mul]

/-- Two real values have a real largest. -/
theorem peak_real (y : Fin 2 → ℝ) : peak (fun k => ((y k : ℝ) : EReal)) = ((max (y 0) (y 1) : ℝ) : EReal) := by
  rw [peak_two]; exact (EReal.coe_strictMono.monotone.map_max).symm

/-- The logarithm of the summed exponentials of real values is real. -/
theorem log_real (z : Fin 2 → ℝ) : Ideal.log (∑ j, Ideal.exp ((z j : ℝ) : EReal)) = ((Real.log (∑ j, Real.exp (z j)) : ℝ) : EReal) := by
  simp only [Ideal.exp_coe]
  rw [coe_sum, Ideal.log_coe, if_neg]
  exact not_le.mpr (Finset.sum_pos (fun _ _ => Real.exp_pos _) Finset.univ_nonempty)

/-- One entry of the logarithm of a two-entry softmax: the entry less the largest, less the logarithm of the sum. -/
def logSoft (y : Fin 2 → EReal) (k : Fin 2) : EReal := y k - peak y - Ideal.log (∑ j, Ideal.exp (y j - peak y))

/-- On real values it is real: the entry less a quantity both entries share. -/
theorem logSoft_real (y : Fin 2 → ℝ) : ∃ s : ℝ, ∀ k, logSoft (fun k => ((y k : ℝ) : EReal)) k = ((y k - s : ℝ) : EReal) := by
  refine ⟨max (y 0) (y 1) + Real.log (∑ j, Real.exp (y j - max (y 0) (y 1))), fun k => ?_⟩
  simp only [logSoft, peak_real, ← EReal.coe_sub]
  rw [log_real fun j => y j - max (y 0) (y 1), ← EReal.coe_sub, sub_sub]

/-- On real values, taking the largest and the logarithm off together is the same. -/
theorem logSoft_together (y : Fin 2 → ℝ) (k : Fin 2) :
    ((y k : ℝ) : EReal) - (peak (fun k => ((y k : ℝ) : EReal))
        + Ideal.log (∑ j, Ideal.exp (((y j : ℝ) : EReal) - peak (fun k => ((y k : ℝ) : EReal)))))
      = logSoft (fun k => ((y k : ℝ) : EReal)) k := by
  simp only [logSoft, peak_real, ← EReal.coe_sub]
  rw [log_real fun j => y j - max (y 0) (y 1), ← EReal.coe_add, ← EReal.coe_sub, ← EReal.coe_sub, sub_sub]

/-- The mean of real values is their evenly weighted sum. -/
theorem mean_real {n : ℕ} (hn : 0 < n) (f : Fin n → ℝ) :
    Ideal.div (∑ i, ((f i : ℝ) : EReal)) ((n : ℝ) : EReal) = ∑ i, ((1 / n : ℝ) : EReal) * ((f i : ℝ) : EReal) := by
  have hn' : (n : ℝ) ≠ 0 := by exact_mod_cast hn.ne'
  rw [Ideal.div_coe hn', coe_sum, ← EReal.coe_mul]
  simp only [← EReal.coe_mul]
  rw [coe_sum, ← Finset.mul_sum, mul_comm]

end Cert.Maths
-- ==== Proof.Finite.lean ====
/- The precondition read as what it says: the four float arrays hold real values. -/
module

public import proofs.«01_k».proof.Pre_finite
public import proofs.«01_k».proof.Proof.Maths
public import Idealize.ShloMosaic.PureOps.Ideal

@[expose] public section

noncomputable section

open Idealize.ShloMosaic

namespace Cert.Pre_finite

theorem facts : Facts where
  bcast_S_S65536x512 := by decide
  bcast_S_S512x2 := by decide
  bcast_S_S1x2 := by decide
  bcast_S_S1 := by decide

/-- An array whose magnitudes all compare below the top holds real values. -/
theorem real_of_below {s : Shape} (h : S_.BroadcastsInDim s (![] : Fin 0 → Fin s.rank)) (x : FVec Ideal s .f32)
    (hx : cmpf .olt (Host.absf x) (broadcastInDim s ![] h (constant (F := Ideal) S_ .f32 0x7F800000#32)) = fun _ => 1#1) :
    ∃ r : s.Idx → ℝ, x = fun i => ((r i : ℝ) : EReal) := by
  have key : ∀ i, ∃ r : ℝ, x i = (r : EReal) := fun i => by
    have hi : Ideal.cmp .olt (max (x i) (-(x i)) : EReal) (Ideal.ofBits .f32 0x7F800000#32) = 1#1 := congrFun hx i
    rw [Cert.Maths.highest] at hi
    refine Cert.Maths.real_of_abs_lt ?_
    by_contra hn
    simp [Ideal.cmp, hn] at hi
  choose r hr using key
  exact ⟨r, funext hr⟩

end Cert.Pre_finite
-- ==== Proof.RefTerms.lean ====
/- What each stage of the reference computes, as a function of the arrays it reads: the class scores, the two
   softmaxes, the tiled mean, the attention, the pooled row and the two classifier outputs. -/
module

public import proofs.«01_k».proof.Proof.Gen.ReferenceIdeal
public import Idealize.ShloMosaic.PureOps.Ideal

@[expose] public section

set_option maxRecDepth 16384

noncomputable section

open Idealize.ShloMosaic

namespace Cert.ReferenceIdeal.Value

open Cert.ReferenceIdeal Facts₀ Facts

/-- The scores of every instance against a two-column matrix. -/
def scores (x : FVec Ideal S65536x512 .f32) (l : FVec Ideal S512x2 .f32) : FVec Ideal S65536x2 .f32 :=
  Host.dotGeneral dot_S65536x512_S512x2_S65536x2_1_0_0_1_n_n none x l

/-- The largest entry of each of the 65536 rows, laid out over the row again. -/
def rowMax (z : FVec Ideal S65536x2 .f32) : FVec Ideal S65536x2 .f32 :=
  broadcastInDim S65536x2 ![0, 1] bcast_S65536x1_S65536x2_0_1
    (broadcastInDim S65536x1 ![0] bcast_S65536_S65536x1_0
      (maximumf (broadcastInDim S65536 ![] bcast_S_S65536 (constant S_ .f32 0xFF800000#32))
        (Host.reduce FloatOps.maximumf z (constant S_ .f32 0xFF800000#32) reducesTo_S65536x2_S65536_d1 h_S_)))

/-- The exponentials of a row less its largest entry. -/
def rowExp (z : FVec Ideal S65536x2 .f32) : FVec Ideal S65536x2 .f32 := Host.exp (subf z (rowMax z))

/-- The softmax of each of the 65536 rows. -/
def rowSoftmax (z : FVec Ideal S65536x2 .f32) : FVec Ideal S65536x2 .f32 :=
  Host.divf (rowExp z)
    (broadcastInDim S65536x2 ![0, 1] bcast_S65536x1_S65536x2_0_1
      (broadcastInDim S65536x1 ![0] bcast_S65536_S65536x1_0
        (Host.reduceAdd (rowExp z) (constant S_ .f32 0x00000000#32) reducesTo_S65536x2_S65536_d1 h_S_)))

/-- The feature bank: the mean instance as each of the two columns. -/
def bank (x : FVec Ideal S65536x512 .f32) : FVec Ideal S512x2 .f32 :=
  transpose S512x2 [1, 0]
    (shapeCast S2x512
      (broadcastInDim S2x1x1x512 ![0, 1, 2, 3] bcast_S1x1x1x512_S2x1x1x512_0_1_2_3
        (shapeCast S1x1x1x512
          (Host.divf
            (broadcastInDim S1x512 ![1] bcast_S512_S1x512_1
              (Host.reduceAdd x (constant S_ .f32 0x00000000#32) reducesTo_S65536x512_S512_d0 h_S_))
            (broadcastInDim S1x512 ![] bcast_S_S1x512 (constant S_ .f32 0x47800000#32)))
          shapeCasts_S1x512_S1x1x1x512))
      shapeCasts_S2x1x1x512_S2x512)
    transposes_S2x512_S512x2_1_0

/-- The attention logits of the 65536 instances: an affine map of a two-class prediction, as one row. -/
def attnLogits (p : FVec Ideal S65536x2 .f32) (w : FVec Ideal S1x2 .f32) (b : FVec Ideal S1 .f32) :
    FVec Ideal S1x65536 .f32 :=
  transpose S1x65536 [1, 0]
    (addf
      (Host.dotGeneral dot_S65536x2_S2x1_S65536x1_1_0_0_1_n_n none p (transpose S2x1 [1, 0] w transposes_S1x2_S2x1_1_0))
      (broadcastInDim S65536x1 ![0, 1] bcast_S1x1_S65536x1_0_1 (broadcastInDim S1x1 ![1] bcast_S1_S1x1_1 b)))
    transposes_S65536x1_S1x65536_1_0

/-- The exponentials of one long row less its largest entry. -/
def longExp (z : FVec Ideal S1x65536 .f32) : FVec Ideal S1x65536 .f32 :=
  Host.exp (subf z
    (broadcastInDim S1x65536 ![0, 1] bcast_S1x1_S1x65536_0_1
      (broadcastInDim S1x1 ![0] bcast_S1_S1x1_0
        (maximumf (broadcastInDim S1 ![] bcast_S_S1 (constant S_ .f32 0xFF800000#32))
          (Host.reduce FloatOps.maximumf z (constant S_ .f32 0xFF800000#32) reducesTo_S1x65536_S1_d1 h_S_)))))

/-- The softmax of one long row. -/
def longSoftmax (z : FVec Ideal S1x65536 .f32) : FVec Ideal S1x65536 .f32 :=
  Host.divf (longExp z)
    (broadcastInDim S1x65536 ![0, 1] bcast_S1x1_S1x65536_0_1
      (broadcastInDim S1x1 ![0] bcast_S1_S1x1_0
        (Host.reduceAdd (longExp z) (constant S_ .f32 0x00000000#32) reducesTo_S1x65536_S1_d1 h_S_)))

/-- The attention over the instances. -/
def attention (x : FVec Ideal S65536x512 .f32) (w : FVec Ideal S1x2 .f32) (b : FVec Ideal S1 .f32) :
    FVec Ideal S1x65536 .f32 :=
  longSoftmax (attnLogits (rowSoftmax (scores x (bank x))) w b)

/-- The instances pooled by an attention row. -/
def pooled (a : FVec Ideal S1x65536 .f32) (x : FVec Ideal S65536x512 .f32) : FVec Ideal S1x512 .f32 :=
  Host.dotGeneral dot_S1x65536_S65536x512_S1x512_1_0_0_1_n_n none a x

/-- The class scores of the pooled row. -/
def classScores (f : FVec Ideal S1x512 .f32) (l : FVec Ideal S512x2 .f32) : FVec Ideal S1x2 .f32 :=
  Host.dotGeneral dot_S1x512_S512x2_S1x2_1_0_0_1_n_n none f l

/-- Two class scores less the larger one. -/
def centred (y : FVec Ideal S1x2 .f32) : FVec Ideal S1x2 .f32 :=
  subf y
    (broadcastInDim S1x2 ![0, 1] bcast_S1x1_S1x2_0_1
      (broadcastInDim S1x1 ![0] bcast_S1_S1x1_0
        (maximumf (broadcastInDim S1 ![] bcast_S_S1 (constant S_ .f32 0xFF800000#32))
          (Host.reduce FloatOps.maximumf y (constant S_ .f32 0xFF800000#32) reducesTo_S1x2_S1_d1 h_S_))))

/-- The logarithm of the softmax of two class scores. -/
def logSoftmax (y : FVec Ideal S1x2 .f32) : FVec Ideal S1x2 .f32 :=
  subf (centred y)
    (broadcastInDim S1x2 ![0, 1] bcast_S1x1_S1x2_0_1
      (Host.log
        (broadcastInDim S1x1 ![0] bcast_S1_S1x1_0
          (Host.reduceAdd (Host.exp (centred y)) (constant S_ .f32 0x00000000#32) reducesTo_S1x2_S1_d1 h_S_))))

/-- The index of the larger of two class values, the first where they are equal. -/
def bestClass (q : FVec Ideal S1x2 .f32) : IVec S1 32 :=
  broadcastInDim S1 ![] bcast_S_S1
    (shapeCast S_
      (fun j => (Host.argReduce reducer_argmax_f32_i32 q (iotaInDim S1x2 32 1) (constant S_ .f32 0xFF800000#32)
        (constantI S_ 32 0#32) reducesTo_S1x2_S1_d1 h_S_ j).2)
      shapeCasts_S1_S_)

end Cert.ReferenceIdeal.Value
-- ==== Proof.RefRun.lean ====
/- The reference's run: it ends, every counter at zero, its arguments unchanged and each result at the stage
   of `RefTerms` that names it. -/
module

public import proofs.«01_k».proof.Defs
public import proofs.«01_k».proof.Proof.RefTerms
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.ReferenceIdeal.Value

open Cert.ReferenceIdeal

/-- The reference runs, its arguments unchanged; it declares no semaphore. -/
theorem quiet : Cert.quiescent_ReferenceIdeal := by
  intro m g hpre
  hlo_run
  · simp
  · exact sem_eq_zero_of_no_sems (sig := Cert.ReferenceIdeal.sig) (by decide) _

variable (m : (ℓ : Loc nD τ sig) → Buf (Elt Ideal) ℓ) (ρ : Dev nD → PrngReg)

/-- The reference's run with its results. -/
theorem run : θ_run defs (onTc (τ := τ) (main (F := Ideal))) ⟨m, fun _ => 0, ρ⟩ fun r => ∀ c : Dev nD,
    r.2.mem ((c.tc : Thread nD τ).loc main_v51)
        = logSoftmax (classScores (pooled (attention (m (c.tc.loc main_arg0)) (m (c.tc.loc main_arg3))
            (m (c.tc.loc main_arg4))) (m (c.tc.loc main_arg0))) (m (c.tc.loc main_arg2)))
      ∧ r.2.mem ((c.tc : Thread nD τ).loc main_v54)
        = bestClass (logSoftmax (classScores (pooled (attention (m (c.tc.loc main_arg0)) (m (c.tc.loc main_arg3))
            (m (c.tc.loc main_arg4))) (m (c.tc.loc main_arg0))) (m (c.tc.loc main_arg2))))
      ∧ r.2.mem ((c.tc : Thread nD τ).loc main_v48)
        = attention (m (c.tc.loc main_arg0)) (m (c.tc.loc main_arg3)) (m (c.tc.loc main_arg4))
      ∧ r.2.mem ((c.tc : Thread nD τ).loc main_v11)
        = rowSoftmax (scores (m (c.tc.loc main_arg0)) (m (c.tc.loc main_arg2)))
      ∧ r.2.mem ((c.tc : Thread nD τ).loc main_v49)
        = pooled (attention (m (c.tc.loc main_arg0)) (m (c.tc.loc main_arg3)) (m (c.tc.loc main_arg4)))
            (m (c.tc.loc main_arg0))
      ∧ r.2.mem ((c.tc : Thread nD τ).loc main_arg0) = m (c.tc.loc main_arg0)
      ∧ r.2.mem ((c.tc : Thread nD τ).loc main_arg1) = m (c.tc.loc main_arg1)
      ∧ r.2.mem ((c.tc : Thread nD τ).loc main_arg2) = m (c.tc.loc main_arg2)
      ∧ r.2.mem ((c.tc : Thread nD τ).loc main_arg3) = m (c.tc.loc main_arg3)
      ∧ r.2.mem ((c.tc : Thread nD τ).loc main_arg4) = m (c.tc.loc main_arg4)
      ∧ r.2.mem ((c.tc : Thread nD τ).loc main_arg5) = m (c.tc.loc main_arg5)
      ∧ r.2.mem ((c.tc : Thread nD τ).loc main_arg6) = m (c.tc.loc main_arg6) := by
  hlo_run
  · simp only [StableHlo.TRef.toBuf, StableHlo.TRef.ofBuf, cast_eq]
    delta logSoftmax centred classScores pooled attention longSoftmax longExp attnLogits rowSoftmax rowExp rowMax scores bank
    rfl
  · simp only [StableHlo.TRef.toBuf, StableHlo.TRef.ofBuf, cast_eq]
    delta bestClass logSoftmax centred classScores pooled attention longSoftmax longExp attnLogits rowSoftmax rowExp rowMax
      scores bank
    rfl
  · delta attention longSoftmax longExp attnLogits rowSoftmax rowExp rowMax scores bank
    rfl
  · delta rowSoftmax rowExp rowMax scores
    rfl
  · delta pooled attention longSoftmax longExp attnLogits rowSoftmax rowExp rowMax scores bank
    rfl

end Cert.ReferenceIdeal.Value
-- ==== Proof.KernelRun.lean ====
/- The kernel's run with its results: every buffer ends at the contents of the last boundary between its two
   launches and its host operations. -/
module

public import proofs.«01_k».proof.Proof.Gen.KernelIdeal.Frame
public import Idealize.ShloMosaic.PureOps.Ideal

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer that no launch scopes ends at the last boundary's contents. -/
theorem ends : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run read at the five results and the seven arguments. -/
theorem run : θ_run defs (onTc (τ := τ) (main (F := Ideal))) ⟨m, fun _ => 0, ρ⟩ (fun r => ∀ c : Dev nD,
    r.2.mem ((c.tc : Thread nD τ).loc main_v2_1) = W4 m ρ c (Proc.devRef .tc main_v2_1)
      ∧ r.2.mem ((c.tc : Thread nD τ).loc main_v3) = W4 m ρ c (Proc.devRef .tc main_v3)
      ∧ r.2.mem ((c.tc : Thread nD τ).loc main_v1_1) = W4 m ρ c (Proc.devRef .tc main_v1_1)
      ∧ r.2.mem ((c.tc : Thread nD τ).loc main_v4) = W4 m ρ c (Proc.devRef .tc main_v4)
      ∧ r.2.mem ((c.tc : Thread nD τ).loc main_v2_0) = W4 m ρ c (Proc.devRef .tc main_v2_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v2_1 (by decide)), h c _ (mem_uc main_v3 (by decide)), h c _ (mem_uc main_v1_1 (by decide)),
      h c _ (mem_uc main_v4 (by decide)), h c _ (mem_uc main_v2_0 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (ends m ρ)

end Cert.KernelIdeal.Value
-- ==== Proof.Stream.lean ====
/- What the streaming launch leaves in its three output arrays: the class probabilities of every instance, one even
   attention row, and the sum of each block of 4096 instances. -/
module

public import proofs.«01_k».proof.Proof.Gen.KernelIdeal.Frame
public import proofs.«01_k».proof.Proof.Maths
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic Idealize.SL Idealize.SL.Sem
open Cert.Maths

variable (V : (c : Dev nD) → (b : Ref sig .tc) → Buf (Elt Ideal) ((c : Thread nD τ).loc b)) (c : Dev nD)

/-- The blocks each window reads or writes: block `t` of the instances, the whole weights, block `t` of each output. -/
theorem idx0 : ∀ t : Fin cfg0.N, win0_0.index t = ![t.val, 0] ∧ win0_1.index t = ![0, 0] ∧ win0_2.index t = ![0, t.val]
    ∧ win0_3.index t = ![0, t.val] ∧ win0_4.index t = ![t.val, 0, 0] :=
  (by decide +kernel : ∀ t : Fin grid0.N, _)

/-- Each instance's two class scores, softmaxed, as two rows. -/
def probsOf (X : FVec Ideal S65536x512 .f32) (W : FVec Ideal S2x512 .f32) : FVec Ideal S2x65536 .f32 :=
  fun i => softmax (fun k : Fin 2 => ∑ d : Fin 512, W (ix2 k d) * X (ix2 (i 1) d)) (i 0)

/-- Instance `r` of block `b`. -/
def inst (b : Fin 16) (r : Fin 4096) : Fin 65536 := ⟨b.val * 4096 + r.val, by omega⟩

/-- The sum of each block of 4096 instances. -/
def sumsOf (X : FVec Ideal S65536x512 .f32) : FVec Ideal S16x1x512 .f32 :=
  fun i => ∑ r : Fin 4096, X (ix2 (inst (i 0) r) (i 2))

theorem probs_t : (dat0 V c).arrAt 2 cfg0.N = probsOf (V c main_arg0) (V c main_v0) := by
  refine (dat0 V c).arrAt_eq_of_covers 2 _ (by decide +kernel) fun t _ y => ?_
  blk_simp
  rw [after0_2]
  frame_out
  obtain ⟨e0, e1, e2, -, -⟩ := idx0 t
  idx_vars y
  pointwise [k0_pay1]
  simp only [probsOf, softmax, peak, lowest]
  blk_point [iblk0, e0, e1, e2]

/-- The attention row: one constant. -/
theorem alpha : (dat0 V c).arrAt 3 cfg0.N = fun _ : S1x65536.Idx => ((1 / 65536 : ℝ) : EReal) := by
  refine (dat0 V c).arrAt_eq_of_covers 3 _ (by decide +kernel) fun t _ y => ?_
  blk_simp
  rw [after0_3]
  frame_out
  exact share

theorem psums : (dat0 V c).arrAt 4 cfg0.N = sumsOf (V c main_arg0) := by
  refine (dat0 V c).arrAt_eq_of_covers 4 _ (by decide +kernel) fun t _ y => ?_
  blk_simp
  rw [after0_4]
  frame_out
  obtain ⟨e0, -, -, -, e4⟩ := idx0 t
  idx_vars y
  pointwise [k0_pay3]
  simp only [sumsOf, inst]
  blk_point [iblk0, e0, e4]

end Cert.KernelIdeal.Value
-- ==== Proof.Finalize.lean ====
/- What the finalizing launch leaves in its three output arrays: its stored values at the whole input arrays. -/
module

public import proofs.«01_k».proof.Proof.Gen.KernelIdeal.Frame
public import Idealize.ShloMosaic.PureOps.Ideal
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Tactic Idealize.SL Idealize.SL.Sem

variable (V : (c : Dev nD) → (b : Ref sig .tc) → Buf (Elt Ideal) ((c : Thread nD τ).loc b)) (c : Dev nD)

theorem idx1 : ∀ t : Fin cfg1.N, win1_0.index t = ![0, 0, 0] ∧ win1_1.index t = ![0, 0] :=
  (by decide +kernel : ∀ t : Fin grid1.N, _)

theorem sums_block (t : Fin cfg1.N) : iblk1 V c 0 t = V c main_v1_2 := by
  funext j; blk_point [iblk1, (idx1 t).1, (idx1 t).2]

theorem weights_block (t : Fin cfg1.N) : iblk1 V c 1 t = V c main_arg2 := by
  funext j; blk_point [iblk1, (idx1 t).1, (idx1 t).2]

theorem fmat : (dat1 V c).arrAt 2 cfg1.N = k1_pay1 (V c main_v1_2) := by
  refine (dat1 V c).arrAt_eq_of_after_last 2 t1_0 (by decide +kernel) _ fun j => ?_
  blk_simp
  rw [after1_2]
  frame_out
  rw [sums_block]

theorem yprob : (dat1 V c).arrAt 3 cfg1.N = k1_pay3 (V c main_v1_2) (V c main_arg2) := by
  refine (dat1 V c).arrAt_eq_of_after_last 3 t1_0 (by decide +kernel) _ fun j => ?_
  blk_simp
  rw [after1_3]
  frame_out
  rw [sums_block, weights_block]

theorem yhat : (dat1 V c).arrAt 4 cfg1.N = k1_pay4 (V c main_v1_2) (V c main_arg2) := by
  refine (dat1 V c).arrAt_eq_of_after_last 4 t1_0 (by decide +kernel) _ fun j => ?_
  blk_simp
  rw [after1_4]
  frame_out
  rw [sums_block, weights_block]

end Cert.KernelIdeal.Value
-- ==== Proof.KernelValue.lean ====
/- The five results of the kernel as functions of its instances and its class weights. -/
module

public import proofs.«01_k».proof.Proof.KernelRun
public import proofs.«01_k».proof.Proof.Stream
public import proofs.«01_k».proof.Proof.Finalize
public import Idealize.ShloMosaic.Lib.StableHlo.RunRead

@[expose] public section

set_option maxRecDepth 16384

noncomputable section

namespace Cert.KernelIdeal.Value

open Cert.KernelIdeal Cert.KernelIdeal.Gen
open Idealize.ShloMosaic Idealize.ShloMosaic.TcCoe Idealize.ShloMosaic.Tactic Idealize.SL Idealize.SL.Sem

variable (m : (ℓ : Loc nD τ sig) → Buf (Elt Ideal) ℓ) (ρ : Dev nD → PrngReg) (c : Dev nD)

/-- The streaming launch finds the instances as they were given. -/
theorem entry_rows : V1 m ρ c main_arg0 = m ((c.tc : Thread nD τ).loc main_arg0) := W1_args m ρ c main_arg0 (by decide)

/-- The streaming launch finds the class weights with their axes exchanged. -/
theorem entry_weights : V1 m ρ c main_v0
    = transpose S2x512 [1, 0] (m ((c.tc : Thread nD τ).loc main_arg2)) Facts₀.transposes_S512x2_S2x512_1_0 := by
  show StableHlo.after hostOps0 (W0 m ρ c) (Proc.devRef .tc main_v0) = _
  after_reads_simp

/-- The finalizing launch finds the block sums. -/
theorem entry_sums : V2 m ρ c main_v1_2 = sumsOf (m ((c.tc : Thread nD τ).loc main_arg0)) :=
  (W2_arr m ρ c 4).trans ((psums (V1 m ρ) c).trans (by rw [entry_rows]))

/-- The finalizing launch finds the class weights as they were given. -/
theorem entry_linear : V2 m ρ c main_arg2 = m ((c.tc : Thread nD τ).loc main_arg2) := W2_args m ρ c main_arg2 (by decide)

theorem value_fmat : W4 m ρ c (Proc.devRef .tc main_v2_0) = k1_pay1 (F := Ideal) (sumsOf (m ((c.tc : Thread nD τ).loc main_arg0))) :=
  (W4_of m ρ c main_v2_0 (by decide)).trans ((W3_arr m ρ c 2).trans ((fmat (V2 m ρ) c).trans (by rw [entry_sums])))

theorem value_yprob : W4 m ρ c (Proc.devRef .tc main_v2_1)
    = k1_pay3 (sumsOf (m ((c.tc : Thread nD τ).loc main_arg0))) (m ((c.tc : Thread nD τ).loc main_arg2)) :=
  (W4_of m ρ c main_v2_1 (by decide)).trans
    ((W3_arr m ρ c 3).trans ((yprob (V2 m ρ) c).trans (by rw [entry_sums, entry_linear])))

theorem value_alpha : W4 m ρ c (Proc.devRef .tc main_v1_1) = fun _ : S1x65536.Idx => ((1 / 65536 : ℝ) : EReal) :=
  (W4_of m ρ c main_v1_1 (by decide)).trans
    ((W3_of m ρ c main_v1_1 (by decide)).trans ((W2_arr m ρ c 3).trans (alpha (V1 m ρ) c)))

theorem last_yhat : W3 m ρ c (Proc.devRef .tc main_v2_2)
    = k1_pay4 (sumsOf (m ((c.tc : Thread nD τ).loc main_arg0))) (m ((c.tc : Thread nD τ).loc main_arg2)) :=
  (W3_arr m ρ c 4).trans ((yhat (V2 m ρ) c).trans (by rw [entry_sums, entry_linear]))

theorem last_probs : W3 m ρ c (Proc.devRef .tc main_v1_0)
    = probsOf (m ((c.tc : Thread nD τ).loc main_arg0))
        (transpose S2x512 [1, 0] (m ((c.tc : Thread nD τ).loc main_arg2)) Facts₀.transposes_S512x2_S2x512_1_0) :=
  (W3_of m ρ c main_v1_0 (by decide)).trans
    ((W2_arr m ρ c 2).trans ((probs_t (V1 m ρ) c).trans (by rw [entry_rows, entry_weights])))

theorem value_yhat : W4 m ρ c (Proc.devRef .tc main_v3)
    = shapeCast S1 (k1_pay4 (sumsOf (m ((c.tc : Thread nD τ).loc main_arg0))) (m ((c.tc : Thread nD τ).loc main_arg2)))
        Facts₀.shapeCasts_S1x1_S1 := by
  rw [← last_yhat m ρ c]
  after_reads_simp
  rfl

theorem value_probs : W4 m ρ c (Proc.devRef .tc main_v4)
    = transpose S65536x2 [1, 0] (probsOf (m ((c.tc : Thread nD τ).loc main_arg0))
        (transpose S2x512 [1, 0] (m ((c.tc : Thread nD τ).loc main_arg2)) Facts₀.transposes_S512x2_S2x512_1_0))
        Facts₀.transposes_S2x65536_S65536x2_1_0 := by
  rw [← last_probs m ρ c]
  after_reads_simp

end Cert.KernelIdeal.Value
-- ==== Proof.RefAt.lean ====
/- Each stage of the reference at an entry of its result. -/
module

public import proofs.«01_k».proof.Proof.RefTerms
public import proofs.«01_k».proof.Proof.Maths
public import Idealize.ShloMosaic.Lib.Pointwise

@[expose] public section

set_option maxRecDepth 16384

noncomputable section

open Idealize.ShloMosaic
open Cert.Maths

namespace Cert.ReferenceIdeal.Value

open Cert.ReferenceIdeal

/-- A row's softmax in the reference, at an entry. -/
theorem rowSoftmax_at (z : FVec Ideal S65536x2 .f32) (n : Fin 65536) (k : Fin 2) :
    rowSoftmax z (ix2 n k) = softmax (fun j : Fin 2 => z (ix2 n j)) k := by
  pointwise [rowSoftmax, rowExp, rowMax]
  simp only [lowest, max_bot_left]
  rfl

theorem longSoftmax_at (z : FVec Ideal S1x65536 .f32) (n : Fin 65536) :
    longSoftmax z (ix2 0 n) = softmax (fun j : Fin 65536 => z (ix2 0 j)) n := by
  pointwise [longSoftmax, longExp]
  simp only [lowest, max_bot_left]
  rfl

theorem logSoftmax_at (q : FVec Ideal S1x2 .f32) (k : Fin 2) :
    logSoftmax q (ix2 0 k) = logSoft (fun j : Fin 2 => q (ix2 0 j)) k := by
  pointwise [logSoftmax, centred]
  simp only [lowest, max_bot_left]
  rfl

theorem scores_at (x : FVec Ideal S65536x512 .f32) (l : FVec Ideal S512x2 .f32) (n : Fin 65536) (k : Fin 2) :
    scores x l (ix2 n k) = ∑ d : Fin 512, x (ix2 n d) * l (ix2 d k) := by
  pointwise [scores]

theorem bank_at (x : FVec Ideal S65536x512 .f32) (d : Fin 512) (k : Fin 2) :
    bank x (ix2 d k) = Ideal.div (∑ i : Fin 65536, x (ix2 i d)) ((65536 : ℝ) : EReal) := by
  pointwise [bank]
  simp only [rows]

theorem attnLogits_at (p : FVec Ideal S65536x2 .f32) (w : FVec Ideal S1x2 .f32) (b : FVec Ideal S1 .f32) (n : Fin 65536) :
    attnLogits p w b (ix2 0 n) = ∑ j : Fin 2, p (ix2 n j) * w (ix2 0 j) + b (ix1 0) := by
  pointwise [attnLogits]

theorem pooled_at (a : FVec Ideal S1x65536 .f32) (x : FVec Ideal S65536x512 .f32) (d : Fin 512) :
    pooled a x (ix2 0 d) = ∑ i : Fin 65536, a (ix2 0 i) * x (ix2 i d) := by
  pointwise [pooled]

theorem classScores_at (f : FVec Ideal S1x512 .f32) (l : FVec Ideal S512x2 .f32) (k : Fin 2) :
    classScores f l (ix2 0 k) = ∑ d : Fin 512, f (ix2 0 d) * l (ix2 d k) := by
  pointwise [classScores]

end Cert.ReferenceIdeal.Value
-- ==== Proof.BestClass.lean ====
/- The index of the larger of two real values, in the two ways the programs find it. -/
module

public import proofs.«01_k».proof.Proof.RefTerms
public import proofs.«01_k».proof.Proof.Maths
public import Idealize.ShloMosaic.Lib.Pointwise

@[expose] public section

set_option maxRecDepth 16384

noncomputable section

open Idealize.ShloMosaic
open Cert.Maths

namespace Cert.ReferenceIdeal.Value

open Cert.ReferenceIdeal

/-- The two places of one row, in order. -/
theorem fiber : (List.finRange S1x2.numel).filter
    (fun n => Facts₀.reducesTo_S1x2_S1_d1.drop (S1x2.rowMajor.symm n) = (ix1 0 : S1.Idx)) = [⟨0, by decide⟩, ⟨1, by decide⟩] := by
  decide +kernel

theorem place0 : S1x2.rowMajor.symm ⟨0, by decide⟩ = ix2 0 0 := by decide +kernel
theorem place1 : S1x2.rowMajor.symm ⟨1, by decide⟩ = ix2 0 1 := by decide +kernel

theorem cmpf_eq (p : CmpFPredicate) (x y : Ideal .f32) : FloatOps.cmpf p x y = Ideal.cmp p x y := rfl

/-- The fold's first step takes the first class over the bottom it starts from. -/
theorem start (a : ℝ) (h : 0 < S_.numel) (h' : 0 < S_.numel) :
    reducer_argmax_f32_i32 (F := Ideal)
      (constant (F := Ideal) S_ .f32 0xFF800000#32 (Shape.Idx.first h), constantI S_ 32 0#32 (Shape.Idx.first h'))
      ((a : EReal), iotaInDim S1x2 32 1 (ix2 0 0)) = ((a : EReal), 0#32) := by
  have e : constant (F := Ideal) S_ .f32 0xFF800000#32 (Shape.Idx.first h) = (⊥ : EReal) := lowest
  have hb : ¬ (a : EReal) < ⊥ := not_lt_bot
  rw [e]
  simp [reducer_argmax_f32_i32, Scalar.select, iotaInDim, constantI, cmpf_eq, Ideal.cmp, hb, IntOp.ori, IntOp.andi]

/-- Its second step keeps the first class unless the second is strictly larger. -/
theorem step (a b : ℝ) :
    (reducer_argmax_f32_i32 (F := Ideal) ((a : EReal), 0#32) ((b : EReal), iotaInDim S1x2 32 1 (ix2 0 1))).2
      = if b ≤ a then 0#32 else 1#32 := by
  have h01 : IntOp.cmpi .slt 0#32 1#32 = 1#1 := by decide
  rcases lt_trichotomy a b with h | h | h
  · simp [reducer_argmax_f32_i32, Scalar.select, iotaInDim, cmpf_eq, Ideal.cmp, IntOp.ori, IntOp.andi, h01, h.not_gt, h.ne, h.not_ge]
  · simp [reducer_argmax_f32_i32, Scalar.select, iotaInDim, cmpf_eq, Ideal.cmp, IntOp.ori, IntOp.andi, h01, h]
  · simp [reducer_argmax_f32_i32, Scalar.select, iotaInDim, cmpf_eq, Ideal.cmp, IntOp.ori, IntOp.andi, h01, h, h.le, h.ne']

/-- The reference's pairwise fold picks the second class only where its value is strictly larger. -/
theorem bestClass_real (q : FVec Ideal S1x2 .f32) (a b : ℝ) (h0 : q (ix2 0 0) = (a : EReal)) (h1 : q (ix2 0 1) = (b : EReal)) :
    bestClass q (ix1 0) = if b ≤ a then 0#32 else 1#32 := by
  pointwise [bestClass]
  rw [Ideal.argReduce_eq_reduce2, Host.reduce2_eq_foldl_fiber, Host.argReduceFiber, fiber]
  simp only [List.map_cons, List.map_nil, List.foldl_cons, List.foldl_nil, place0, place1, h0, h1]
  rw [start, step]

end Cert.ReferenceIdeal.Value

namespace Cert.Maths

/-- The least index whose value is the largest. -/
theorem least_peak (a b : ℝ) (y : Fin 2 → EReal) (h0 : y 0 = a) (h1 : y 1 = b) :
    Finset.fold IntOp.minsi 2147483647#32 (fun x : Fin 2 => if y x = peak y then BitVec.ofNat 32 x.val else 2#32) Finset.univ
      = if b ≤ a then 0#32 else 1#32 := by
  have hu : (Finset.univ : Finset (Fin 2)) = {0, 1} := by decide
  rw [hu, Finset.fold_insert (by decide), Finset.fold_singleton, peak_two, h0, h1]
  rcases lt_trichotomy a b with h | h | h
  · have h' : (a : EReal) < b := EReal.coe_lt_coe_iff.mpr h
    rw [max_eq_right h'.le, if_neg h'.ne, if_pos rfl, if_neg (not_le.mpr h)]; decide
  · subst h; simp; decide
  · have h' : (b : EReal) < a := EReal.coe_lt_coe_iff.mpr h
    rw [max_eq_left h'.le, if_pos rfl, if_neg h'.ne, if_pos h.le]; decide

end Cert.Maths
-- ==== Proof.Agree.lean ====
/- The kernel's five results are the reference's: the probabilities entry by entry, and on real values the even
   attention, the pooled mean, the logarithm of the class softmax and the better class. -/
module

public import proofs.«01_k».proof.Proof.Stream
public import proofs.«01_k».proof.Proof.RefAt
public import proofs.«01_k».proof.Proof.BestClass
public import Idealize.ShloMosaic.Lib.Pointwise
public import Idealize.ShloMosaic.Lib.Pipeline.ValueKit

@[expose] public section

set_option maxRecDepth 16384

noncomputable section

open Idealize.ShloMosaic
open Cert.Maths

namespace Cert.Agree

open Cert.ReferenceIdeal.Value Cert.KernelIdeal.Value Cert.KernelIdeal.Gen
open Cert.ReferenceIdeal (S65536x512 S512x2 S1x2 S1 S65536x2 S1x65536 S1x512)

/-- The class probabilities agree on every input. -/
theorem probs (x : FVec Ideal S65536x512 .f32) (l : FVec Ideal S512x2 .f32) :
    transpose Cert.KernelIdeal.S65536x2 [1, 0] (probsOf x (transpose Cert.KernelIdeal.S2x512 [1, 0] l
        Cert.KernelIdeal.Facts₀.transposes_S512x2_S2x512_1_0)) Cert.KernelIdeal.Facts₀.transposes_S2x65536_S65536x2_1_0
      = rowSoftmax (scores x l) := by
  funext i
  idx_vars i
  rw [rowSoftmax_at]
  simp only [scores_at]
  pointwise [probsOf]
  simp only [mul_comm]

section Real
variable (x : S65536x512.Idx → ℝ) (l : S512x2.Idx → ℝ) (w : S1x2.Idx → ℝ) (b : S1.Idx → ℝ)

/-- Real arrays as the programs hold them. -/
def up {s : Shape} (r : s.Idx → ℝ) : FVec Ideal s .f32 := fun i => ((r i : ℝ) : EReal)

/-- The mean instance. -/
def mean (d : Fin 512) : ℝ := (∑ i : Fin 65536, x (ix2 i d)) * (1 / 65536)

theorem bank_real (d : Fin 512) (k : Fin 2) : bank (up x) (ix2 d k) = ((mean x d : ℝ) : EReal) := by
  rw [bank_at]
  simp only [up, mean]
  rw [coe_sum, Ideal.div_coe (by norm_num), ← EReal.coe_mul]

/-- Both columns of the feature bank are the mean instance, so the two predictions of an instance are even. -/
theorem even_pred (n : Fin 65536) (k : Fin 2) :
    rowSoftmax (scores (up x) (bank (up x))) (ix2 n k) = ((1 / 2 : ℝ) : EReal) := by
  rw [rowSoftmax_at]
  have h : (fun j : Fin 2 => scores (up x) (bank (up x)) (ix2 n j))
      = fun _ => ((∑ d : Fin 512, x (ix2 n d) * mean x d : ℝ) : EReal) := by
    funext j
    rw [scores_at, ← coe_sum]
    refine Finset.sum_congr rfl fun d _ => ?_
    rw [bank_real, EReal.coe_mul]
    rfl
  rw [h, softmax_even (by decide)]
  norm_num

/-- Even predictions give every instance the same logit, so the attention is even. -/
theorem attention_real : attention (up x) (up w) (up b) = fun _ => ((1 / 65536 : ℝ) : EReal) := by
  funext i
  idx_vars i
  obtain rfl : i0 = 0 := Subsingleton.elim _ _
  rw [attention, longSoftmax_at]
  have h : (fun j : Fin 65536 => attnLogits (rowSoftmax (scores (up x) (bank (up x)))) (up w) (up b) (ix2 0 j))
      = fun _ => ((∑ k : Fin 2, (1 / 2) * w (ix2 0 k) + b (ix1 0) : ℝ) : EReal) := by
    funext j
    rw [attnLogits_at, EReal.coe_add, ← coe_sum]
    refine congrArg₂ (fun u v : EReal => u + v) (Finset.sum_congr rfl fun k _ => ?_) rfl
    rw [even_pred, EReal.coe_mul]
    rfl
  rw [h, softmax_even (by decide)]
  norm_num

theorem pooled_real (d : Fin 512) :
    pooled (fun _ => ((1 / 65536 : ℝ) : EReal)) (up x) (ix2 0 d) = ((mean x d : ℝ) : EReal) := by
  rw [pooled_at, mean, mul_comm, Finset.mul_sum, ← coe_sum]
  refine Finset.sum_congr rfl fun i _ => ?_
  rw [EReal.coe_mul]
  rfl

theorem sum_blocks (g : Fin 65536 → EReal) : ∑ t : Fin 16, ∑ r : Fin 4096, g (inst t r) = ∑ i : Fin 65536, g i := by
  simp only [inst]
  exact Fin.sum_mul_add_fin (L := 65536) 16 4096 g (by norm_num)

/-- The sixteen block sums add up to the sum of all the instances. -/
theorem kernel_mean (d : Fin 512) : k1_pay1 (F := Ideal) (sumsOf (up x)) (ix2 0 d) = ((mean x d : ℝ) : EReal) := by
  have h : ∑ t : Fin 16, ∑ r : Fin 4096, up x (ix2 (inst t r) d) = ∑ i : Fin 65536, up x (ix2 i d) :=
    sum_blocks fun i => up x (ix2 i d)
  pointwise [k1_pay1]
  rw [rows]
  refine (congrArg (Ideal.div · ((65536 : ℝ) : EReal)) h).trans ?_
  simp only [up, mean]
  rw [coe_sum, Ideal.div_coe (by norm_num), ← EReal.coe_mul]

/-- The class scores of the mean instance. -/
def logit (k : Fin 2) : ℝ := ∑ d : Fin 512, mean x d * l (ix2 d k)

theorem kernel_logit (k : Fin 2) : k1_pay2 (F := Ideal) (sumsOf (up x)) (up l) (ix2 0 k) = ((logit x l k : ℝ) : EReal) := by
  pointwise [k1_pay2]
  rw [logit, ← coe_sum]
  refine Finset.sum_congr rfl fun d _ => ?_
  rw [kernel_mean, EReal.coe_mul]
  rfl

theorem kernel_logSoft (k : Fin 2) : k1_pay3 (F := Ideal) (sumsOf (up x)) (up l) (ix2 0 k)
    = logSoft (fun j => ((logit x l j : ℝ) : EReal)) k := by
  rw [← logSoft_together]
  pointwise [k1_pay3]
  simp only [lowest, kernel_logit]
  rfl

theorem kernel_best : k1_pay4 (F := Ideal) (sumsOf (up x)) (up l) (ix2 0 0)
    = if logit x l 1 ≤ logit x l 0 then 0#32 else 1#32 := by
  rw [← least_peak (logit x l 0) (logit x l 1) (fun j => ((logit x l j : ℝ) : EReal)) rfl rfl]
  pointwise [k1_pay4]
  simp only [lowest, kernel_logit]
  rfl

/-- The pooled row of the reference under its attention is the kernel's mean row. -/
theorem pooled_agree : k1_pay1 (F := Ideal) (sumsOf (up x)) = pooled (attention (up x) (up w) (up b)) (up x) := by
  funext i
  idx_vars i
  obtain rfl : i0 = 0 := Subsingleton.elim _ _
  rw [attention_real, pooled_real, kernel_mean]

theorem classScores_real (k : Fin 2) :
    classScores (pooled (attention (up x) (up w) (up b)) (up x)) (up l) (ix2 0 k) = ((logit x l k : ℝ) : EReal) := by
  rw [classScores_at, logit, ← coe_sum]
  refine Finset.sum_congr rfl fun d _ => ?_
  rw [attention_real, pooled_real, EReal.coe_mul]
  rfl

theorem logSoft_agree : k1_pay3 (F := Ideal) (sumsOf (up x)) (up l)
    = logSoftmax (classScores (pooled (attention (up x) (up w) (up b)) (up x)) (up l)) := by
  funext i
  idx_vars i
  obtain rfl : i0 = 0 := Subsingleton.elim _ _
  rw [kernel_logSoft, logSoftmax_at]
  simp only [classScores_real]

theorem best_agree : shapeCast Cert.KernelIdeal.S1 (k1_pay4 (F := Ideal) (sumsOf (up x)) (up l)) Cert.KernelIdeal.Facts₀.shapeCasts_S1x1_S1
    = bestClass (logSoftmax (classScores (pooled (attention (up x) (up w) (up b)) (up x)) (up l))) := by
  obtain ⟨s, hs⟩ := logSoft_real (logit x l)
  have hq : ∀ k, logSoftmax (classScores (pooled (attention (up x) (up w) (up b)) (up x)) (up l)) (ix2 0 k)
      = ((logit x l k - s : ℝ) : EReal) := fun k => by
    rw [logSoftmax_at]
    simp only [classScores_real]
    exact hs k
  funext i
  idx_vars i
  obtain rfl : i0 = 0 := Subsingleton.elim _ _
  rw [bestClass_real _ _ _ (hq 0) (hq 1)]
  pointwise []
  rw [kernel_best]
  simp

end Real

end Cert.Agree
-- ==== Proof.lean ====
/- The certificate: the three frames, the idealization, and the kernel's five results equal to the reference's on real
   inputs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import proofs.«01_k».proof.Proof.RefRun
public import proofs.«01_k».proof.Proof.KernelValue
public import proofs.«01_k».proof.Proof.Agree

@[expose] public section

set_option maxRecDepth 16384

noncomputable section

namespace Cert.Proof

open Idealize.ShloMosaic Idealize.SL.Sem
open Cert.KernelIdeal.Value Cert.ReferenceIdeal.Value Cert.Agree

attribute [local instance] Cert.Kernel.Gen.facts Cert.KernelIdeal.Gen.facts Cert.ReferenceIdeal.Gen.facts Cert.Pre_finite.facts

theorem algebraic : Cert.algebraic_KernelIdeal_ReferenceIdeal_pre_finite := by
  intro m g m' g' hpre hagree
  refine ⟨_, _, _, _, _, Cert.KernelIdeal.Value.run m g,
    (θ_run _ _ _).mono (fun r h c => ?_) (Cert.ReferenceIdeal.Value.run m' g')⟩
  obtain ⟨a0, a1, a2, a3, a4, a5, a6⟩ := hagree c
  obtain ⟨p0, p2, p3, p4⟩ := hpre c
  obtain ⟨x, hx⟩ := Cert.Pre_finite.real_of_below _ _ p0
  obtain ⟨l, hl⟩ := Cert.Pre_finite.real_of_below _ _ p2
  obtain ⟨w, hw⟩ := Cert.Pre_finite.real_of_below _ _ p3
  obtain ⟨b, hb⟩ := Cert.Pre_finite.real_of_below _ _ p4
  obtain ⟨h0, h1, h2, h3, h4, hargs⟩ := h c
  rw [a0, a2, a3, a4] at h0 h1
  rw [a0, a3, a4] at h2 h4
  rw [a0, a2] at h3
  refine ⟨h0.trans ?_, h1.trans ?_, h2.trans ?_, h3.trans ?_, h4.trans ?_, hargs⟩
  · rw [value_yprob, hx, hl, hw, hb]
    exact (logSoft_agree x l w b).symm
  · rw [value_yhat, hx, hl, hw, hb]
    exact (best_agree x l w b).symm
  · rw [value_alpha, hx, hw, hb]
    exact attention_real x w b
  · rw [value_probs]
    exact (probs _ _).symm
  · rw [value_fmat, hx, hw, hb]
    exact (pooled_agree x w b).symm

theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    Cert.ReferenceIdeal.Value.quiet,
    fun m ρ _ => Cert.ReferenceIdeal.Value.quiet m ρ trivial,
    trivial,
    algebraic⟩

end Cert.Proof

end
